-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x9472 : Shape := ⟨3, ![2, 512, 9472]⟩
abbrev S2x512x1 : Shape := ⟨3, ![2, 512, 1]⟩
abbrev S9472x3584 : Shape := ⟨2, ![9472, 3584]⟩
abbrev S3584 : Shape := ⟨1, ![3584]⟩
abbrev S2x512x3584 : Shape := ⟨3, ![2, 512, 3584]⟩
abbrev S1024x9472 : Shape := ⟨2, ![1024, 9472]⟩
abbrev S8x128 : Shape := ⟨2, ![8, 128]⟩
abbrev S28x128 : Shape := ⟨2, ![28, 128]⟩
abbrev S1024x3584 : Shape := ⟨2, ![1024, 3584]⟩
abbrev S9472x512 : Shape := ⟨2, ![9472, 512]⟩
abbrev S1024x512 : Shape := ⟨2, ![1024, 512]⟩
abbrev S1024x128 : Shape := ⟨2, ![1024, 128]⟩
abbrev S1x128 : Shape := ⟨2, ![1, 128]⟩
abbrev S128x128 : Shape := ⟨2, ![128, 128]⟩

abbrev nBuf : Space → Nat
  | .hbm => 11
  | .vmem => 10
  | .smem => 0
  | _ => 0

abbrev bufTy : (tb : Table) → Fin (tcTables nBuf tb) → BufTy
  | .hbm, ⟨0, _⟩ => ⟨S2x512x9472, .fp8e4m3⟩
  | .hbm, ⟨1, _⟩ => ⟨S2x512x1, .f32⟩
  | .hbm, ⟨2, _⟩ => ⟨S9472x3584, .fp8e4m3⟩
  | .hbm, ⟨3, _⟩ => ⟨S3584, .f32⟩
  | .hbm, ⟨4, _⟩ => ⟨S2x512x3584, .bf16⟩
  | .hbm, ⟨5, _⟩ => ⟨S1024x9472, .fp8e4m3⟩
  | .hbm, ⟨6, _⟩ => ⟨S8x128, .f32⟩
  | .hbm, ⟨7, _⟩ => ⟨S28x128, .f32⟩
  | .hbm, ⟨8, _⟩ => ⟨S1024x3584, .bf16⟩
  | .hbm, ⟨9, _⟩ => ⟨S1024x3584, .bf16⟩
  | .hbm, ⟨10, _⟩ => ⟨S2x512x3584, .bf16⟩
  | .local _ .vmem, ⟨0, _⟩ => ⟨S1024x9472, .fp8e4m3⟩
  | .local _ .vmem, ⟨1, _⟩ => ⟨S8x128, .f32⟩
  | .local _ .vmem, ⟨2, _⟩ => ⟨S9472x512, .fp8e4m3⟩
  | .local _ .vmem, ⟨3, _⟩ => ⟨S9472x512, .fp8e4m3⟩
  | .local _ .vmem, ⟨4, _⟩ => ⟨S28x128, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x128, .f32⟩
  | _, _ => ⟨S2x512x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![7], ![false]⟩

def k0_off1 (i : grid0.Coords) (c0_i32_4 : BitVec 32) : Fin 2 → Nat :=
  let arg0 : BitVec 32 := BitVec.ofNat 32 (i 0).val
  let c4_i32 : BitVec 32 := 4#32
  let v7 : BitVec 32 := Scalar.muli arg0 c4_i32
  let v8 : BitVec 32 := Scalar.addi v7 c0_i32_4
  let v9 : Index := Scalar.indexCast v8
  let c0_5 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x9472 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S9472x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S28x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x512x9472 : Shape := ⟨3, ![2, 512, 9472]⟩
abbrev S2x512x1 : Shape := ⟨3, ![2, 512, 1]⟩
abbrev S9472x3584 : Shape := ⟨2, ![9472, 3584]⟩
abbrev S3584 : Shape := ⟨1, ![3584]⟩
abbrev S2x512x3584 : Shape := ⟨3, ![2, 512, 3584]⟩
abbrev S1x1x3584 : Shape := ⟨3, ![1, 1, 3584]⟩

abbrev nBuf : Space → Nat
  | .hbm => 6
  | .vmem => 6
  | .smem => 0
  | _ => 0

abbrev bufTy : (tb : Table) → Fin (tcTables nBuf tb) → BufTy
  | .hbm, ⟨0, _⟩ => ⟨S2x512x9472, .fp8e4m3⟩
  | .hbm, ⟨1, _⟩ => ⟨S2x512x1, .f32⟩
  | .hbm, ⟨2, _⟩ => ⟨S9472x3584, .fp8e4m3⟩
  | .hbm, ⟨3, _⟩ => ⟨S3584, .f32⟩
  | .hbm, ⟨4, _⟩ => ⟨S2x512x3584, .bf16⟩
  | .hbm, ⟨5, _⟩ => ⟨S2x512x3584, .bf16⟩
  | .local _ .vmem, ⟨0, _⟩ => ⟨S2x512x9472, .fp8e4m3⟩
  | .local _ .vmem, ⟨1, _⟩ => ⟨S2x512x1, .f32⟩
  | .local _ .vmem, ⟨2, _⟩ => ⟨S9472x3584, .fp8e4m3⟩
  | .local _ .vmem, ⟨3, _⟩ => ⟨S3584, .f32⟩
  | .local _ .vmem, ⟨4, _⟩ => ⟨S2x512x3584, .bf16⟩
  | .local _ .vmem, ⟨5, _⟩ => ⟨S2x512x3584, .bf16⟩
  | _, _ => ⟨S2x512x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x512x9472 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9472x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Value.Scratch.lean ====
/- What the scratch array of the idealized kernel holds: the first grid point turns each of the eight rows of scales into a column
   and spreads it over 128 lanes. The eight tiles together are one function of the scales, `rowScale`. -/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

variable {F : FTy → Type} [FloatOps F]

/-- The row scale of row `r`, spread over the 128 lanes: entry `(r, l)` is entry `(r / 128, r % 128)` of the [8, 128] scales. -/
def rowScale (x1 : Vec F S8x128 .f32) : Vec F S1024x128 .f32 := fun i =>
  x1 (ix2 ⟨(i 0).val / 128, by have : (i 0).val < 1024 := (i 0).isLt; omega⟩ ⟨(i 0).val % 128, Nat.mod_lt _ (by decide)⟩)

/-- One scale row turned into a column: entry `(a, b)` of the 128 by 128 tile is entry `a` of the row. -/
theorem spread_apply (v : Vec F S1x128 .f32) (x : S128x128.Idx) : k0_pay9 v x = v (ix2 0 (x 0)) := by
  idx_vars x
  pointwise [k0_pay9]

/-- The tile written at row `o = 128 k` from scale row `k` is the part of `rowScale` it covers. -/
theorem spread_piece (arg2 : Memref sig .tc .vmem S8x128 .f32) (harg2 : arg2.IsWhole) (x1 : Vec F S8x128 .f32)
    (k o : ℕ) (ho : o = 128 * k) (h1 : ∀ a, (![k, 0] : Fin 2 → ℕ) a + S1x128.size a ≤ S8x128.size a)
    (h2 : ∀ a, (![o, 0] : Fin 2 → ℕ) a + S128x128.size a ≤ S1024x128.size a) (x : S128x128.Idx) :
    k0_pay9 (View.readAt (Elt F) arg2.view (Rect.unit (s := S8x128) ![k, 0] S1x128.size h1).toLoadRect (harg2.unread x1)) x
      = rowScale x1 ((Rect.unit (s := S1024x128) ![o, 0] S128x128.size h2).emb x) := by
  rw [spread_apply, View.readAt_eq_ld, harg2.read_unread]
  have hx : (x 0).val < 128 := (x 0).isLt
  subst ho
  unfold rowScale View.ld
  refine congrArg x1 (Shape.idx_ext₂ ?_ ?_)
  · show k + 1 * 0 = (128 * k + 1 * (x 0).val) / 128
    omega
  · show 0 + 1 * (x 0).val = (128 * k + 1 * (x 0).val) % 128
    omega

/-- What the first grid point leaves in the scratch array: the row scales, spread over the lanes. -/
theorem sout0_A_0_eq (c : Dev nD) (i : grid0.Coords) (arg1 : Memref sig .tc .vmem S1024x9472 .fp8e4m3) (harg1 : arg1.IsWhole) (arg2 : Memref sig .tc .vmem S8x128 .f32) (harg2 : arg2.IsWhole) (arg3 : Memref sig .tc .vmem S9472x512 .fp8e4m3) (harg3 : arg3.IsWhole) (arg4 : Memref sig .tc .vmem S28x128 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x128 .f32) (harg7 : arg7.IsWhole) (hc0)
    (x0 : Vec F S1024x9472 .fp8e4m3) (x1 : Vec F S8x128 .f32) (x2 : Vec F S9472x512 .fp8e4m3) (x3 : Vec F S28x128 .f32) (x4 : Vec F S1024x512 .bf16) :
    sout0_A_0 c i arg1 harg1 arg2 harg2 arg3 harg3 arg4 harg4 arg5 harg5 arg6 harg6 arg7 harg7 hc0 x0 x1 x2 x3 x4 = rowScale x1 := by
  have hcov := scover0_A_0 c i arg1 harg1 arg2 harg2 arg3 harg3 arg4 harg4 arg5 harg5 arg6 harg6 arg7 harg7 hc0 x0 x1 x2 x3 x4
  unfold sout0_A_0
  rw [View.read_writes_eq_canon _ _ _ hcov]
  funext y
  refine View.canon_apply_of_pieces _ _ ?_ y (hcov y)
  unfold kernelRun0_A
  dsimp only
  sl_unfold_words
  simp only [List.forall_mem_cons, List.not_mem_nil, false_imp_iff, implies_true, and_true]
  exact ⟨fun x => spread_piece arg2 harg2 x1 7 896 rfl _ _ x, fun x => spread_piece arg2 harg2 x1 6 768 rfl _ _ x,
    fun x => spread_piece arg2 harg2 x1 5 640 rfl _ _ x, fun x => spread_piece arg2 harg2 x1 4 512 rfl _ _ x,
    fun x => spread_piece arg2 harg2 x1 3 384 rfl _ _ x, fun x => spread_piece arg2 harg2 x1 2 256 rfl _ _ x,
    fun x => spread_piece arg2 harg2 x1 1 128 rfl _ _ x, fun x => spread_piece arg2 harg2 x1 0 0 rfl _ _ x⟩

end Cert.KernelIdeal.Hand

end
-- ==== Proof.Value.Block.lean ====
/- What one grid point of the idealized kernel writes: four tiles of 128 columns that together are one function of the blocks read,
   `blockVal`, both at the first point (which fills the scratch array first) and at the later ones (which find it filled). -/
module

public import proofs.«01_k».proof.Proof.Value.Scratch

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

/-- What one grid point writes, entry by entry: the product of the activations with the weight block, times the row's scale,
    times the column's scale (row `4 i + q / 128`, lane `q % 128` of the [28, 128] scales), plus the residual. -/
def blockVal (i : grid0.Coords) (x0 : Vec Ideal S1024x9472 .fp8e4m3) (xs : Vec Ideal S1024x128 .f32)
    (x2 : Vec Ideal S9472x512 .fp8e4m3) (x3 : Vec Ideal S28x128 .f32) (x4 : Vec Ideal S1024x512 .bf16) : Vec Ideal S1024x512 .bf16 := fun y =>
  ((∑ k : Fin 9472, (x0 (ix2 (y 0) k) : EReal) * x2 (ix2 k (y 1))) * xs (ix2 (y 0) ⟨(y 1).val % 128, Nat.mod_lt _ (by decide)⟩)
    * x3 (ix2 ⟨4 * (i 0).val + (y 1).val / 128, by
        have h1 : (y 1).val < 512 := (y 1).isLt
        have h0 : (i 0).val < 7 := (i 0).isLt
        omega⟩ ⟨(y 1).val % 128, Nat.mod_lt _ (by decide)⟩) + x4 y : EReal)

/-- One 128-column tile of the block: a slice of the product at column `o`, scaled twice, plus the residual tile. -/
def tile (o : ℕ) (hs : S1024x512.Slices ![0, o] S1024x128) (acc : FVec Ideal S1024x512 .f32) (ws : Vec Ideal S1x128 .f32)
    (xs : Vec Ideal S1024x128 .f32) (res : Vec Ideal S1024x128 .bf16) : FVec Ideal S1024x128 .bf16 :=
  truncf .bf16 (addf (mulf (mulf (extractStridedSlice S1024x128 ![0, o] acc hs) xs)
    (broadcastTo S1024x128 (shapeCast S1x128 ws shapeCasts_S1x128_S1x128) broadcasts_S1x128_S1024x128))
    (extf .f32 (shapeCast S1024x128 res shapeCasts_S1024x128_S1024x128) bitsLt_bf16_f32)) bitsLt_bf16_f32

/-- The tile at an entry. -/
theorem tile_apply (o : ℕ) (ho : o + 128 ≤ 512) (hs : S1024x512.Slices ![0, o] S1024x128) (acc : FVec Ideal S1024x512 .f32) (ws : Vec Ideal S1x128 .f32)
    (xs : Vec Ideal S1024x128 .f32) (res : Vec Ideal S1024x128 .bf16) (r : Fin 1024) (q : Fin 128) :
    tile o hs acc ws xs res (ix2 r q)
      = ((acc (ix2 r ⟨o + q.val, by omega⟩) : EReal) * xs (ix2 r q) * ws (ix2 0 q) + res (ix2 r q) : EReal) := by
  pointwise [tile]

/-- The product of the block at an entry: the sum over the 9472 inner positions. -/
theorem product_apply (x0 : Vec Ideal S1024x9472 .fp8e4m3) (x2 : Vec Ideal S9472x512 .fp8e4m3) (r : Fin 1024) (q : Fin 512) :
    k0_pay10 x0 x2 (ix2 r q) = (∑ k : Fin 9472, (x0 (ix2 r k) : EReal) * x2 (ix2 k q) : EReal) := by
  pointwise [k0_pay10]

/-- Row `4 i + k` of the column scales is the one grid point `i` reads for its tile `k`. -/
theorem off1_eq (i : grid0.Coords) (k : ℕ) (hk : k < 4) : k0_off1 i (BitVec.ofNat 32 k) = ![4 * (i 0).val + k, 0] := by
  have key : ∀ n < 7, ∀ k < 4,
      (Scalar.indexCast (Scalar.addi (Scalar.muli (BitVec.ofNat 32 n) 4#32) (BitVec.ofNat 32 k))).toNat = 4 * n + k := by
    decide +kernel
  show ![_, 0] = _
  exact congrArg (fun n => ![n, 0]) (key (i 0).val (i 0).isLt k hk)

/-- The tile stored at column `o = 128 k` is the part of `blockVal` it covers. -/
theorem tile_piece (i : grid0.Coords) (arg1 : Memref sig .tc .vmem S1024x9472 .fp8e4m3) (harg1 : arg1.IsWhole) (arg3 : Memref sig .tc .vmem S9472x512 .fp8e4m3) (harg3 : arg3.IsWhole) (arg4 : Memref sig .tc .vmem S28x128 .f32) (harg4 : arg4.IsWhole) (arg5 : Memref sig .tc .vmem S1024x512 .bf16) (harg5 : arg5.IsWhole)
    (x0 : Vec Ideal S1024x9472 .fp8e4m3) (x2 : Vec Ideal S9472x512 .fp8e4m3) (x3 : Vec Ideal S28x128 .f32) (x4 : Vec Ideal S1024x512 .bf16)
    (xs xs0 : Vec Ideal S1024x128 .f32) (hxs : xs = xs0) (k o : ℕ) (hk : k < 4) (ho : o = 128 * k)
    (hs : S1024x512.Slices ![0, o] S1024x128)
    (h1 : ∀ a, (![0, 0] : Fin 2 → ℕ) a + S1024x9472.size a ≤ S1024x9472.size a)
    (h3 : ∀ a, (![0, 0] : Fin 2 → ℕ) a + S9472x512.size a ≤ S9472x512.size a)
    (h4 : ∀ a, (k0_off1 i (BitVec.ofNat 32 k)) a + S1x128.size a ≤ S28x128.size a)
    (h5 : ∀ a, (![0, o] : Fin 2 → ℕ) a + S1024x128.size a ≤ S1024x512.size a) (x : S1024x128.Idx) :
    tile o hs
      (k0_pay10 (View.readAt (Elt Ideal) arg1.view (Rect.unit (s := S1024x9472) ![0, 0] S1024x9472.size h1).toLoadRect (harg1.unread x0))
        (View.readAt (Elt Ideal) arg3.view (Rect.unit (s := S9472x512) ![0, 0] S9472x512.size h3).toLoadRect (harg3.unread x2)))
      (View.readAt (Elt Ideal) arg4.view (Rect.unit (s := S28x128) (k0_off1 i (BitVec.ofNat 32 k)) S1x128.size h4).toLoadRect (harg4.unread x3))
      xs
      (View.readAt (Elt Ideal) arg5.view (Rect.unit (s := S1024x512) ![0, o] S1024x128.size h5).toLoadRect (harg5.unread x4)) x
    = blockVal i x0 xs0 x2 x3 x4 ((Rect.unit (s := S1024x512) ![0, o] S1024x128.size h5).emb x) := by
  subst ho hxs
  have hz : (![0, 0] : Fin 2 → ℕ) = fun _ => 0 := funext fun a => by fin_cases a <;> rfl
  obtain ⟨r, q, rfl⟩ : ∃ (r : Fin 1024) (q : Fin 128), x = ix2 r q := ⟨x 0, x 1, Shape.idx_ext₂ rfl rfl⟩
  have hq := q.isLt
  simp only [View.readAt_eq_ld, harg1.read_unread, harg3.read_unread, harg4.read_unread, harg5.read_unread]
  rw [tile_apply _ (by omega), View.ld_unit_zero (S := S1024x9472) hz, View.ld_unit_zero (S := S9472x512) hz, product_apply]
  have e1 : (Rect.unit (s := S1024x512) ![0, 128 * k] S1024x128.size h5).emb (ix2 r q) = ix2 r ⟨128 * k + q.val, by omega⟩ :=
    Shape.idx_ext₂ (by show 0 + 1 * r.val = r.val; omega) (by show 128 * k + 1 * q.val = 128 * k + q.val; omega)
  have e2 : ∀ (off : Fin 2 → ℕ) (_ : off = ![4 * (i 0).val + k, 0]) (h : ∀ a, off a + S1x128.size a ≤ S28x128.size a),
      View.ld x3 (Rect.unit (s := S28x128) off S1x128.size h) (ix2 0 q)
        = x3 (ix2 ⟨4 * (i 0).val + k, by have h0 : (i 0).val < 7 := (i 0).isLt; omega⟩ q) := by
    rintro _ rfl h
    refine congrArg x3 (Shape.idx_ext₂ ?_ ?_)
    · show 4 * (i 0).val + k + 1 * 0 = 4 * (i 0).val + k; omega
    · show 0 + 1 * q.val = q.val; omega
  have e3 : View.ld x4 (Rect.unit (s := S1024x512) ![0, 128 * k] S1024x128.size h5) (ix2 r q) = x4 (ix2 r ⟨128 * k + q.val, by omega⟩) :=
    congrArg x4 e1
  rw [e1, e2 _ (off1_eq i k hk), e3]
  have a1 : (128 * k + q.val) / 128 = k := by omega
  have a2 : (128 * k + q.val) % 128 = q.val := by omega
  unfold blockVal
  simp only [ix2_0, ix2_1, a1, a2]

/-- What every later grid point writes, over the scratch array it finds. -/
theorem out0_B_5_eq (c : Dev nD) (i : grid0.Coords) (arg1 : Memref sig .tc .vmem S1024x9472 .fp8e4m3) (harg1 : arg1.IsWhole) (arg2 : Memref sig .tc .vmem S8x128 .f32) (harg2 : arg2.IsWhole) (arg3 : Memref sig .tc .vmem S9472x512 .fp8e4m3) (harg3 : arg3.IsWhole) (arg4 : Memref sig .tc .vmem S28x128 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x128 .f32) (harg7 : arg7.IsWhole) (hc0)
    (x0 : Vec Ideal S1024x9472 .fp8e4m3) (x1 : Vec Ideal S8x128 .f32) (x2 : Vec Ideal S9472x512 .fp8e4m3) (x3 : Vec Ideal S28x128 .f32) (x4 : Vec Ideal S1024x512 .bf16) (xs0 : Vec Ideal S1024x128 .f32) :
    out0_B_5 c i arg1 harg1 arg2 harg2 arg3 harg3 arg4 harg4 arg5 harg5 arg6 harg6 arg7 harg7 hc0 x0 x1 x2 x3 x4 xs0 = blockVal i x0 xs0 x2 x3 x4 := by
  have hz : (![0, 0] : Fin 2 → ℕ) = fun _ => 0 := funext fun a => by fin_cases a <;> rfl
  have hxs : View.readAt (Elt Ideal) arg7.view (Rect.unit (s := S1024x128) ![0, 0] S1024x128.size inb_S1024x128_S1024x128_0_0).toLoadRect (harg7.unread xs0) = xs0 := by
    rw [View.readAt_eq_ld, harg7.read_unread, View.ld_unit_zero (S := S1024x128) hz]
  have hcov := cover0_B_5 c i arg1 harg1 arg2 harg2 arg3 harg3 arg4 harg4 arg5 harg5 arg6 harg6 arg7 harg7 hc0 x0 x1 x2 x3 x4 xs0
  unfold out0_B_5
  rw [View.read_writes_eq_canon _ _ _ hcov]
  funext y
  refine View.canon_apply_of_pieces _ _ ?_ y (hcov y)
  clear hcov
  unfold kernelRun0_B
  dsimp only
  sl_unfold_words
  simp only [List.forall_mem_cons, List.not_mem_nil, false_imp_iff, implies_true, and_true]
  exact ⟨fun x => tile_piece i arg1 harg1 arg3 harg3 arg4 harg4 arg5 harg5 x0 x2 x3 x4 _ _ hxs 3 384 (by decide) rfl slices_S1024x512_o0_384_S1024x128 _ _ (k0_off1_inb i 3) _ x,
    fun x => tile_piece i arg1 harg1 arg3 harg3 arg4 harg4 arg5 harg5 x0 x2 x3 x4 _ _ hxs 2 256 (by decide) rfl slices_S1024x512_o0_256_S1024x128 _ _ (k0_off1_inb i 2) _ x,
    fun x => tile_piece i arg1 harg1 arg3 harg3 arg4 harg4 arg5 harg5 x0 x2 x3 x4 _ _ hxs 1 128 (by decide) rfl slices_S1024x512_o0_128_S1024x128 _ _ (k0_off1_inb i 1) _ x,
    fun x => tile_piece i arg1 harg1 arg3 harg3 arg4 harg4 arg5 harg5 x0 x2 x3 x4 _ _ hxs 0 0 (by decide) rfl slices_S1024x512_o0_0_S1024x128 _ _ (k0_off1_inb i 0) _ x⟩

/-- What the first grid point writes: it fills the scratch array before it reads it. -/
theorem out0_A_5_eq (c : Dev nD) (i : grid0.Coords) (arg1 : Memref sig .tc .vmem S1024x9472 .fp8e4m3) (harg1 : arg1.IsWhole) (arg2 : Memref sig .tc .vmem S8x128 .f32) (harg2 : arg2.IsWhole) (arg3 : Memref sig .tc .vmem S9472x512 .fp8e4m3) (harg3 : arg3.IsWhole) (arg4 : Memref sig .tc .vmem S28x128 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x128 .f32) (harg7 : arg7.IsWhole) (hc0)
    (x0 : Vec Ideal S1024x9472 .fp8e4m3) (x1 : Vec Ideal S8x128 .f32) (x2 : Vec Ideal S9472x512 .fp8e4m3) (x3 : Vec Ideal S28x128 .f32) (x4 : Vec Ideal S1024x512 .bf16)  :
    out0_A_5 c i arg1 harg1 arg2 harg2 arg3 harg3 arg4 harg4 arg5 harg5 arg6 harg6 arg7 harg7 hc0 x0 x1 x2 x3 x4 = blockVal i x0 (rowScale x1) x2 x3 x4 := by
  have hz : (![0, 0] : Fin 2 → ℕ) = fun _ => 0 := funext fun a => by fin_cases a <;> rfl
  have hs := scover0_A_0 c i arg1 harg1 arg2 harg2 arg3 harg3 arg4 harg4 arg5 harg5 arg6 harg6 arg7 harg7 hc0 x0 x1 x2 x3 x4
  have hxs : arg7.view.readCov (kernelRun0_A c i arg1 harg1 arg2 harg2 arg3 harg3 arg4 harg4 arg5 harg5 arg6 harg6 arg7 harg7 hc0 x0 x1 x2 x3 x4).2.1 (Rect.unit (s := S1024x128) ![0, 0] S1024x128.size inb_S1024x128_S1024x128_0_0).toLoadRect = rowScale x1 := by
    rw [View.readCov_eq_canon_ld _ _ _ hs, View.ld_unit_zero (S := S1024x128) hz, ← sout0_A_0_eq c i arg1 harg1 arg2 harg2 arg3 harg3 arg4 harg4 arg5 harg5 arg6 harg6 arg7 harg7 hc0 x0 x1 x2 x3 x4]
    unfold sout0_A_0
    rw [View.read_writes_eq_canon _ _ _ hs]
  clear hs
  have hcov := cover0_A_5 c i arg1 harg1 arg2 harg2 arg3 harg3 arg4 harg4 arg5 harg5 arg6 harg6 arg7 harg7 hc0 x0 x1 x2 x3 x4
  unfold out0_A_5
  rw [View.read_writes_eq_canon _ _ _ hcov]
  funext y
  refine View.canon_apply_of_pieces _ _ ?_ y (hcov y)
  clear hcov
  unfold kernelRun0_A
  dsimp only
  sl_unfold_words
  simp only [List.forall_mem_cons, List.not_mem_nil, false_imp_iff, implies_true, and_true]
  exact ⟨fun x => tile_piece i arg1 harg1 arg3 harg3 arg4 harg4 arg5 harg5 x0 x2 x3 x4 _ _ hxs 3 384 (by decide) rfl slices_S1024x512_o0_384_S1024x128 _ _ (k0_off1_inb i 3) _ x,
    fun x => tile_piece i arg1 harg1 arg3 harg3 arg4 harg4 arg5 harg5 x0 x2 x3 x4 _ _ hxs 2 256 (by decide) rfl slices_S1024x512_o0_256_S1024x128 _ _ (k0_off1_inb i 2) _ x,
    fun x => tile_piece i arg1 harg1 arg3 harg3 arg4 harg4 arg5 harg5 x0 x2 x3 x4 _ _ hxs 1 128 (by decide) rfl slices_S1024x512_o0_128_S1024x128 _ _ (k0_off1_inb i 1) _ x,
    fun x => tile_piece i arg1 harg1 arg3 harg3 arg4 harg4 arg5 harg5 x0 x2 x3 x4 _ _ hxs 0 0 (by decide) rfl slices_S1024x512_o0_0_S1024x128 _ _ (k0_off1_inb i 0) _ x⟩

end Cert.KernelIdeal.Hand

end
-- ==== Proof.Value.Array.lean ====
/- What the grid of the idealized kernel leaves in its result array: by induction over the points the scratch array stays at the
   spread row scales, each point writes its 512 columns of `fullVal`, and the seven blocks tile the array. -/
module

public import proofs.«01_k».proof.Proof.Value.Block

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

/-- The whole [1024, 3584] result as a function of the five arrays the grid reads: activations `x` as 1024 rows, row scales `s`
    as [8, 128], weights `w`, column scales `ws` as [28, 128], residual `res` as 1024 rows. -/
def fullVal (x : Vec Ideal S1024x9472 .fp8e4m3) (s : Vec Ideal S8x128 .f32) (w : Vec Ideal S9472x3584 .fp8e4m3)
    (ws : Vec Ideal S28x128 .f32) (res : Vec Ideal S1024x3584 .bf16) : Vec Ideal S1024x3584 .bf16 := fun y =>
  ((∑ k : Fin 9472, (x (ix2 (y 0) k) : EReal) * w (ix2 k (y 1)))
    * s (ix2 ⟨(y 0).val / 128, by have : (y 0).val < 1024 := (y 0).isLt; omega⟩ ⟨(y 0).val % 128, Nat.mod_lt _ (by decide)⟩)
    * ws (ix2 ⟨(y 1).val / 128, by have : (y 1).val < 3584 := (y 1).isLt; omega⟩ ⟨(y 1).val % 128, Nat.mod_lt _ (by decide)⟩)
    + res y : EReal)

variable (m : (ℓ : Loc nD τ sig) → Buf (Elt Ideal) ℓ) (ρ : Dev nD → PrngReg)

/-! ## The blocks the grid points read -/

/-- Every point reads the activations whole. -/
theorem iblk_0 (c : Dev nD) (t : Fin cfg0.N) : (iblk m c 0 t : Vec Ideal S1024x9472 .fp8e4m3) = V m c main_v0 := by
  have key : ∀ t : Fin grid0.N, win0_0.index t 0 = 0 ∧ win0_0.index t 1 = 0 := by decide +kernel
  funext j
  unfold iblk
  rw [View.read_apply]
  refine congrArg (V m c main_v0) (Shape.idx_ext₂ ?_ ?_)
  · show win0_0.index t 0 * 1024 + 1 * (j 0).val = (j 0).val; rw [(key t).1]; omega
  · show win0_0.index t 1 * 9472 + 1 * (j 1).val = (j 1).val; rw [(key t).2]; omega

/-- Every point reads the row scales whole. -/
theorem iblk_1 (c : Dev nD) (t : Fin cfg0.N) : (iblk m c 1 t : Vec Ideal S8x128 .f32) = V m c main_v1 := by
  have key : ∀ t : Fin grid0.N, win0_1.index t 0 = 0 ∧ win0_1.index t 1 = 0 := by decide +kernel
  funext j
  unfold iblk
  rw [View.read_apply]
  refine congrArg (V m c main_v1) (Shape.idx_ext₂ ?_ ?_)
  · show win0_1.index t 0 * 8 + 1 * (j 0).val = (j 0).val; rw [(key t).1]; omega
  · show win0_1.index t 1 * 128 + 1 * (j 1).val = (j 1).val; rw [(key t).2]; omega

/-- Every point reads the column scales whole. -/
theorem iblk_3 (c : Dev nD) (t : Fin cfg0.N) : (iblk m c 3 t : Vec Ideal S28x128 .f32) = V m c main_v2 := by
  have key : ∀ t : Fin grid0.N, win0_3.index t 0 = 0 ∧ win0_3.index t 1 = 0 := by decide +kernel
  funext j
  unfold iblk
  rw [View.read_apply]
  refine congrArg (V m c main_v2) (Shape.idx_ext₂ ?_ ?_)
  · show win0_3.index t 0 * 28 + 1 * (j 0).val = (j 0).val; rw [(key t).1]; omega
  · show win0_3.index t 1 * 128 + 1 * (j 1).val = (j 1).val; rw [(key t).2]; omega

/-- The grid has seven points. -/
theorem lt7 (t : Fin cfg0.N) : t.val < 7 := lt_of_lt_of_eq t.isLt N_0

/-- Point `t` reads columns `512 t … 512 t + 511` of the weights. -/
theorem iblk_2 (c : Dev nD) (t : Fin cfg0.N) (k : Fin 9472) (q : Fin 512) :
    (iblk m c 2 t : Vec Ideal S9472x512 .fp8e4m3) (ix2 k q)
      = (V m c main_arg2 : Vec Ideal S9472x3584 .fp8e4m3) (ix2 k ⟨512 * t.val + q.val, by have := lt7 t; omega⟩) := by
  have key : ∀ t : Fin grid0.N, win0_2.index t 0 = 0 ∧ win0_2.index t 1 = t.val := by decide +kernel
  unfold iblk
  rw [View.read_apply]
  refine congrArg (V m c main_arg2) (Shape.idx_ext₂ ?_ ?_)
  · show win0_2.index t 0 * 9472 + 1 * k.val = k.val; rw [(key t).1]; omega
  · show win0_2.index t 1 * 512 + 1 * q.val = 512 * t.val + q.val; rw [(key t).2]; omega

/-- Point `t` reads columns `512 t … 512 t + 511` of the residual. -/
theorem iblk_4 (c : Dev nD) (t : Fin cfg0.N) (r : Fin 1024) (q : Fin 512) :
    (iblk m c 4 t : Vec Ideal S1024x512 .bf16) (ix2 r q)
      = (V m c main_v3 : Vec Ideal S1024x3584 .bf16) (ix2 r ⟨512 * t.val + q.val, by have := lt7 t; omega⟩) := by
  have key : ∀ t : Fin grid0.N, win0_4.index t 0 = 0 ∧ win0_4.index t 1 = t.val := by decide +kernel
  unfold iblk
  rw [View.read_apply]
  refine congrArg (V m c main_v3) (Shape.idx_ext₂ ?_ ?_)
  · show win0_4.index t 0 * 1024 + 1 * r.val = r.val; rw [(key t).1]; omega
  · show win0_4.index t 1 * 512 + 1 * q.val = 512 * t.val + q.val; rw [(key t).2]; omega

/-! ## What the grid points leave -/

/-- After every point the scratch array holds the row scales, spread over the lanes. -/
theorem scratch_eq (c : Dev nD) : ∀ (n : ℕ) (h : n < cfg0.N), (outsAt0 m c n h).2 = rowScale (F := Ideal) (V m c main_v1)
  | 0, h => by
    rw [outsAt0_A m c ⟨0, h⟩ rfl]
    dsimp only
    rw [sout0_A_0_eq, iblk_1]
  | n + 1, h => by
    have hN : n + 1 < 7 := lt7 ⟨n + 1, h⟩
    have hB : ¬(⟨n + 1, h⟩ : Fin cfg0.N).val % 7 = 0 := by dsimp only; omega
    rw [outsAt0_B m c ⟨n + 1, h⟩ hB]
    show (outsAt0 m c n _).2 = _
    exact scratch_eq c n _

/-- After point `t` the output block holds `blockVal` of the arrays read. -/
theorem out_eq (c : Dev nD) (t : Fin cfg0.N) : (outsAt0 m c t.val t.isLt).1
    = blockVal (grid0.coords t) (V m c main_v0) (rowScale (F := Ideal) (V m c main_v1)) (iblk m c 2 t) (V m c main_v2) (iblk m c 4 t) := by
  by_cases h0 : t.val % 7 = 0
  · rw [outsAt0_A m c t h0]
    dsimp only
    rw [out0_A_5_eq, iblk_0, iblk_1, iblk_3]
  · rw [outsAt0_B m c t h0]
    dsimp only
    rw [out0_B_5_eq, iblk_0, iblk_3, scratch_eq]

/-- What the result array of the grid is shown to hold. -/
abbrev result (c : Dev nD) : Buf (Elt Ideal) ((c : Thread nD τ).loc main_v4) :=
  fullVal (V m c main_v0) (V m c main_v1) (V m c main_arg2) (V m c main_v2) (V m c main_v3)

/-- Point `t` writes columns `512 t … 512 t + 511` of the result. -/
theorem flushed_eq (c : Dev nD) (t : Fin cfg0.N) :
    (dats m 0 c).flushed 5 t = ((cfg0.win 5).blk t).view.read (Elt Ideal) (result m c) := by
  have key : ∀ t : Fin grid0.N, win0_5.index t 0 = 0 ∧ win0_5.index t 1 = t.val ∧ (grid0.coords t 0).val = t.val := by decide +kernel
  have ht := lt7 t
  show (cfg0.win 5).cut (grid0.coords t) ((dats m 0 c).after 5 t) = _
  rw [after0_5, out_eq]
  funext j
  rw [View.read_apply]
  obtain ⟨r, q, rfl⟩ : ∃ (r : Fin 1024) (q : Fin 512), j = ix2 r q := ⟨j 0, j 1, Shape.idx_ext₂ rfl rfl⟩
  have hq := q.isLt
  have e : ((cfg0.win 5).blk t).view.emb (ix2 r q) = (ix2 r ⟨512 * t.val + q.val, by omega⟩ : S1024x3584.Idx) := by
    refine Shape.idx_ext₂ ?_ ?_
    · show win0_5.index t 0 * 1024 + 1 * r.val = r.val; rw [(key t).1]; omega
    · show win0_5.index t 1 * 512 + 1 * q.val = 512 * t.val + q.val; rw [(key t).2.1]; omega
  rw [e]
  show blockVal (grid0.coords t) _ _ _ _ _ (ix2 r q) = fullVal _ _ _ _ _ (ix2 r ⟨512 * t.val + q.val, _⟩)
  have a1 : (512 * t.val + q.val) / 128 = 4 * t.val + q.val / 128 := by omega
  have a2 : (512 * t.val + q.val) % 128 = q.val % 128 := by omega
  unfold blockVal fullVal rowScale
  simp only [ix2_0, ix2_1, iblk_2, iblk_4, a1, a2, (key t).2.2]

/-- An index of the result array is in point `t`'s block when its column is. -/
theorem mem_blk (t : Fin cfg0.N) (i : S1024x3584.Idx) :
    i ∈ ((cfg0.win 5).blk t).view.set ↔ t.val * 512 ≤ (i 1).val ∧ (i 1).val < t.val * 512 + 512 := by
  show i ∈ ((View.whole main_v4).slice (win0_5.rect t)).set ↔ _
  rw [View.set_slice_whole, Rect.mem_set_unit]
  have h0 : (i 0 : Nat) < 1024 := (i 0).isLt
  have key : ∀ t : Fin grid0.N, win0_5.index t 0 * win0_5.size 0 = 0 ∧ win0_5.xsize (grid0.coords t) 0 = 1024
      ∧ win0_5.index t 1 * win0_5.size 1 = t.val * 512 ∧ win0_5.xsize (grid0.coords t) 1 = 512 := by decide +kernel
  have e := key t
  refine ⟨fun h => ?_, fun h a => ?_⟩
  · have : win0_5.index t 1 * win0_5.size 1 ≤ (i 1 : Nat) ∧ (i 1 : Nat) < win0_5.index t 1 * win0_5.size 1 + win0_5.xsize (grid0.coords t) 1 := h 1
    rw [e.2.2.1, e.2.2.2] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; omega
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; exact h

/-- The blocks tile the result array. -/
theorem cover (i : S1024x3584.Idx) :
    ∃ t : Fin cfg0.N, (cfg0.win 5).flush t = true ∧ i ∈ ((cfg0.win 5).blk t).view.set := by
  have h1 : (i 1 : Nat) < 3584 := (i 1).isLt
  have hN : cfg0.N = 7 := N_0
  have ht : (i 1).val / 512 < cfg0.N := by omega
  refine ⟨⟨(i 1).val / 512, ht⟩, flush0_5 _, ?_⟩
  rw [mem_blk]
  dsimp only
  omega

/-- So the grid leaves the result array at `fullVal` of the arrays read. -/
theorem final (c : Dev nD) : (dats m 0 c).arrAt 5 cfg0.N = result m c :=
  (dats m 0 c).arrAt_eq_of_cover 5 (result m c) (fun t _ => flushed_eq m c t) cover

end Cert.KernelIdeal.Hand

end
-- ==== Proof.Value.Equation.lean ====
/- The equation between the kernel and the reference: read at an entry, both results are the same expression of the arguments. -/
module

public import proofs.«01_k».proof.Proof.Value.Array
public import proofs.«01_k».proof.Proof.Gen.ReferenceIdeal.Value

@[expose] public section

set_option maxRecDepth 16384

noncomputable section

namespace Cert.KernelIdeal.Hand

open Idealize.ShloMosaic Idealize.SL.Sem
open Cert.KernelIdeal Cert.KernelIdeal.Gen

/-- The kernel's result as a function of its five arguments: `fullVal` of the reshaped arguments, reshaped to [2, 512, 3584]. -/
def kernelVal (x : Vec Ideal S2x512x9472 .fp8e4m3) (s : Vec Ideal S2x512x1 .f32) (w : Vec Ideal S9472x3584 .fp8e4m3)
    (ws : Vec Ideal S3584 .f32) (res : Vec Ideal S2x512x3584 .bf16) : Vec Ideal S2x512x3584 .bf16 :=
  shapeCast S2x512x3584 (fullVal (shapeCast S1024x9472 x shapeCasts_S2x512x9472_S1024x9472) (shapeCast S8x128 s shapeCasts_S2x512x1_S8x128) w
    (shapeCast S28x128 ws shapeCasts_S3584_S28x128) (shapeCast S1024x3584 res shapeCasts_S2x512x3584_S1024x3584)) shapeCasts_S1024x3584_S2x512x3584

/-- The kernel's result at entry `(b, r, q)`: the product of row `(b, r)` of the activations with column `q` of the weights,
    times the row's scale, times the column's scale, plus the residual. -/
theorem kernelVal_apply (x : Vec Ideal S2x512x9472 .fp8e4m3) (s : Vec Ideal S2x512x1 .f32) (w : Vec Ideal S9472x3584 .fp8e4m3)
    (ws : Vec Ideal S3584 .f32) (res : Vec Ideal S2x512x3584 .bf16) (b : Fin 2) (r : Fin 512) (q : Fin 3584) :
    kernelVal x s w ws res (ix3 b r q)
      = ((∑ k : Fin 9472, (x (ix3 b r k) : EReal) * w (ix2 k q)) * s (ix3 b r 0) * ws (ix1 q) + res (ix3 b r q) : EReal) := by
  pointwise [kernelVal, fullVal]

/-- The reference's result at entry `(b, r, q)`: the same expression. -/
theorem reference_apply (x : Vec Ideal S2x512x9472 .fp8e4m3) (s : Vec Ideal S2x512x1 .f32) (w : Vec Ideal S9472x3584 .fp8e4m3)
    (ws : Vec Ideal S3584 .f32) (res : Vec Ideal S2x512x3584 .bf16) (b : Fin 2) (r : Fin 512) (q : Fin 3584) :
    Cert.ReferenceIdeal.Value.G5 (F := Ideal) x s w ws res (ix3 b r q)
      = ((∑ k : Fin 9472, (x (ix3 b r k) : EReal) * w (ix2 k q)) * s (ix3 b r 0) * ws (ix1 q) + res (ix3 b r q) : EReal) := by
  pointwise [Cert.ReferenceIdeal.Value.G5, Cert.ReferenceIdeal.Gen.k0_pay1]

/-- The two results are the same array. -/
theorem kernelVal_eq (x : Vec Ideal S2x512x9472 .fp8e4m3) (s : Vec Ideal S2x512x1 .f32) (w : Vec Ideal S9472x3584 .fp8e4m3)
    (ws : Vec Ideal S3584 .f32) (res : Vec Ideal S2x512x3584 .bf16) :
    kernelVal x s w ws res = Cert.ReferenceIdeal.Value.G5 (F := Ideal) x s w ws res := by
  funext j
  idx_vars j
  exact (kernelVal_apply x s w ws res _ _ _).trans (reference_apply x s w ws res _ _ _).symm

end Cert.KernelIdeal.Hand

end
-- ==== Proof.Value.Run.lean ====
/- The idealized kernel's run, read: the host lines before the grid reshape the arguments, the line after it reshapes the grid's
   result, so the result array ends at `kernelVal` of the arguments, which stay unchanged. -/
module

public import proofs.«01_k».proof.Proof.Value.Equation

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (ρ : Dev nD → PrngReg)

/-! ## The arrays the grid reads, as reshapes of the arguments -/

/-- The activations as 1024 rows. -/
theorem V_main_v0 (c : Dev nD) : V m c main_v0
    = shapeCast (α := Elt Ideal .fp8e4m3) S1024x9472 (m ((c : Thread nD τ).loc main_arg0)) shapeCasts_S2x512x9472_S1024x9472 := by
  unfold V V0
  simp only [List.flatten_cons, List.flatten_nil, List.append_nil]
  after_results
  rfl

/-- The row scales as [8, 128]. -/
theorem V_main_v1 (c : Dev nD) : V m c main_v1
    = shapeCast (α := Elt Ideal .f32) S8x128 (m ((c : Thread nD τ).loc main_arg1)) shapeCasts_S2x512x1_S8x128 := by
  unfold V V0
  simp only [List.flatten_cons, List.flatten_nil, List.append_nil]
  after_results
  rfl

/-- The column scales as [28, 128]. -/
theorem V_main_v2 (c : Dev nD) : V m c main_v2
    = shapeCast (α := Elt Ideal .f32) S28x128 (m ((c : Thread nD τ).loc main_arg3)) shapeCasts_S3584_S28x128 := by
  unfold V V0
  simp only [List.flatten_cons, List.flatten_nil, List.append_nil]
  after_results
  rfl

/-- The residual as 1024 rows. -/
theorem V_main_v3 (c : Dev nD) : V m c main_v3
    = shapeCast (α := Elt Ideal .bf16) S1024x3584 (m ((c : Thread nD τ).loc main_arg4)) shapeCasts_S2x512x3584_S1024x3584 := by
  unfold V V0
  simp only [List.flatten_cons, List.flatten_nil, List.append_nil]
  after_results
  rfl

/-- The line after the grid reshapes the grid's result array. -/
theorem tail_main_v5 (c : Dev nD) : Pipeline.afterTail₀ cfgs (dats m) 0 (V0 m) [hostOps1] c main_v5
    = shapeCast (α := Elt Ideal .bf16) S2x512x3584 (result m c) shapeCasts_S1024x3584_S2x512x3584 := by
  unfold Pipeline.afterTail₀
  simp only [List.flatten_cons, List.flatten_nil, List.append_nil]
  after_results
  have h := Pipeline.withArrays_arr spec0 (by decide) c (V0 m c) (fun w => (dats m 0 c).arrAt w cfg0.N) 5
  exact congrArg (fun v : Vec Ideal S1024x3584 .bf16 => shapeCast S2x512x3584 v shapeCasts_S1024x3584_S2x512x3584) (h.trans (final m c))

/-- What the kernel's result array holds at the end, from the arguments as launched. -/
theorem tail_eq (c : Dev nD) : Pipeline.afterTail₀ cfgs (dats m) 0 (V0 m) [hostOps1] c main_v5
    = kernelVal (m ((c : Thread nD τ).loc main_arg0)) (m ((c : Thread nD τ).loc main_arg1)) (m ((c : Thread nD τ).loc main_arg2))
        (m ((c : Thread nD τ).loc main_arg3)) (m ((c : Thread nD τ).loc main_arg4)) := by
  rw [tail_main_v5]
  unfold result kernelVal
  rw [V_main_v0, V_main_v1, V_main_v2, V_main_v3, V_main_arg2]

/-- Every run of the kernel terminates with its result array at `kernelVal` of the arguments and the arguments unchanged. -/
theorem run : θ_run defs (onTc (τ := τ) (main (F := Ideal))) ⟨m, fun _ => 0, ρ⟩ fun r => ∀ c : Dev nD,
      r.2.mem ((c.tc : Thread nD τ).loc main_v5)
        = kernelVal (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.2 c).2 main_v5 (Pipeline.mem_restRefs_of main_v5 (by decide) (by decide))).trans (tail_eq m c), h.1 c⟩)
    (θ_run_and (unchanged m ρ) (run_main m ρ))

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value.Run
public import Idealize.ShloMosaic.Adequacy
public import Idealize.ShloMosaic.Init

@[expose] public section

noncomputable section

namespace Cert.Proof

open Idealize.ShloMosaic Idealize.SL.Sem Cert.Kernel

/-- At exact arithmetic the kernel's result is the reference's on every input: both runs end at the same function of arguments
    that agree. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨_, Cert.KernelIdeal.Hand.run m ρ, (θ_run Cert.ReferenceIdeal.defs _ _).mono (fun _ h c => ⟨(h c).1.trans ?_, (h c).2⟩)
    (Cert.ReferenceIdeal.Value.run (F := Ideal) m' ρ')⟩
  obtain ⟨e0, e1, e2, e3, e4⟩ := hagree c
  refine Eq.trans ?_ (Cert.KernelIdeal.Hand.kernelVal_eq _ _ _ _ _).symm
  rw [← e0, ← e1, ← e2, ← e3, ← e4]

/-- All five claims: the three programs terminate with their arguments unchanged and their counters at zero, the idealization is
    the kernel's, and the kernel's result is the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
